-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x4096 : Shape := ⟨3, ![4, 8192, 4096]⟩
abbrev S4x8192x1 : Shape := ⟨3, ![4, 8192, 1]⟩
abbrev S12288x4096 : Shape := ⟨2, ![12288, 4096]⟩
abbrev S12288 : Shape := ⟨1, ![12288]⟩
abbrev S32768x4096 : Shape := ⟨2, ![32768, 4096]⟩
abbrev S32768x1 : Shape := ⟨2, ![32768, 1]⟩
abbrev S1x12288 : Shape := ⟨2, ![1, 12288]⟩
abbrev S32768x12288 : Shape := ⟨2, ![32768, 12288]⟩
abbrev S1024x4096 : Shape := ⟨2, ![1024, 4096]⟩
abbrev S1024x1 : Shape := ⟨2, ![1024, 1]⟩
abbrev S1x1024 : Shape := ⟨2, ![1, 1024]⟩
abbrev S1024x1024 : Shape := ⟨2, ![1024, 1024]⟩
abbrev S4x8192x12288 : Shape := ⟨3, ![4, 8192, 12288]⟩

abbrev nBuf : Space → Nat
  | .hbm => 9
  | .vmem => 10
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192x1, .f32⟩
  | .hbm, ⟨2, _⟩ => ⟨S12288x4096, .fp8e4m3⟩
  | .hbm, ⟨3, _⟩ => ⟨S12288, .f32⟩
  | .hbm, ⟨4, _⟩ => ⟨S32768x4096, .fp8e4m3⟩
  | .hbm, ⟨5, _⟩ => ⟨S32768x1, .f32⟩
  | .hbm, ⟨6, _⟩ => ⟨S1x12288, .f32⟩
  | .hbm, ⟨7, _⟩ => ⟨S32768x12288, .bf16⟩
  | .hbm, ⟨8, _⟩ => ⟨S4x8192x12288, .bf16⟩
  | .local _ .vmem, ⟨0, _⟩ => ⟨S1024x4096, .fp8e4m3⟩
  | .local _ .vmem, ⟨1, _⟩ => ⟨S1024x4096, .fp8e4m3⟩
  | .local _ .vmem, ⟨2, _⟩ => ⟨S1024x1, .f32⟩
  | .local _ .vmem, ⟨3, _⟩ => ⟨S1024x1, .f32⟩
  | .local _ .vmem, ⟨4, _⟩ => ⟨S1024x4096, .fp8e4m3⟩
  | .local _ .vmem, ⟨5, _⟩ => ⟨S1024x4096, .fp8e4m3⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8192x4096 : Shape := ⟨3, ![4, 8192, 4096]⟩
abbrev S4x8192x1 : Shape := ⟨3, ![4, 8192, 1]⟩
abbrev S12288x4096 : Shape := ⟨2, ![12288, 4096]⟩
abbrev S12288 : Shape := ⟨1, ![12288]⟩
abbrev S4x8192x12288 : Shape := ⟨3, ![4, 8192, 12288]⟩
abbrev S1x1x12288 : Shape := ⟨3, ![1, 1, 12288]⟩

abbrev nBuf : Space → Nat
  | .hbm => 5
  | .vmem => 5
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192x1, .f32⟩
  | .hbm, ⟨2, _⟩ => ⟨S12288x4096, .fp8e4m3⟩
  | .hbm, ⟨3, _⟩ => ⟨S12288, .f32⟩
  | .hbm, ⟨4, _⟩ => ⟨S4x8192x12288, .bf16⟩
  | .local _ .vmem, ⟨0, _⟩ => ⟨S4x8192x4096, .fp8e4m3⟩
  | .local _ .vmem, ⟨1, _⟩ => ⟨S4x8192x1, .f32⟩
  | .local _ .vmem, ⟨2, _⟩ => ⟨S12288x4096, .fp8e4m3⟩
  | .local _ .vmem, ⟨3, _⟩ => ⟨S12288, .f32⟩
  | .local _ .vmem, ⟨4, _⟩ => ⟨S4x8192x12288, .bf16⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Payload.lean ====
/- What the two bodies compute, read at one index over the extended reals.
   The kernel's block body and the reference's whole-array body are the same arithmetic of one row of `x`, one row of
   `w` and the two scales; this module states that arithmetic once (`entry`) and shows that each body is it. -/
module

public import proofs.«01_k».proof.Proof.Gen.KernelIdeal.Skeleton
public import proofs.«01_k».proof.Proof.Gen.ReferenceIdeal.Skeleton
public import Idealize.ShloMosaic.Lib.Pointwise

@[expose] public section

noncomputable section

open Idealize.ShloMosaic

namespace Cert.LinearGelu

/-- One result entry from the dot product `a`, the row's scale `s` and the column's scale `t`: with `h = a·s·t`,
    `0.5·h·(1 + tanh(c·(h + k·h·h·h)))`, the constants being the printed f32 words. -/
def entry (a s t : EReal) : EReal :=
  Ideal.ofBits .f32 0x3F000000#32 * (a * s * t) *
    (Ideal.ofBits .f32 0x3F800000#32 +
      Ideal.tanh (Ideal.ofBits .f32 0x3F4C422A#32 *
        (a * s * t + Ideal.ofBits .f32 0x3D372713#32 * (a * s * t) * (a * s * t) * (a * s * t))))

/-- The whole result as one function of the four arguments: entry `(b, s, n)` is `entry` of the dot product of row
    `(b, s)` of `x` with row `n` of `w`, and of their scales. -/
def out (x : Vec Ideal Cert.ReferenceIdeal.S4x8192x4096 .fp8e4m3) (xs : Vec Ideal Cert.ReferenceIdeal.S4x8192x1 .f32)
    (w : Vec Ideal Cert.ReferenceIdeal.S12288x4096 .fp8e4m3) (ws : Vec Ideal Cert.ReferenceIdeal.S12288 .f32)
    (b : Fin 4) (s : Fin 8192) (n : Fin 12288) : EReal :=
  entry (∑ k : Fin 4096, x (ix3 b s k) * w (ix2 n k)) (xs (ix3 b s 0)) (ws (ix1 n))

/-- The kernel's body on one block: entry `(r, n)` of what it stores is `entry` of row `r` of the `x` block against
    row `n` of the `w` block, and of their scales. -/
theorem kernel_pay (x w : Vec Ideal Cert.KernelIdeal.S1024x4096 .fp8e4m3) (xs : Vec Ideal Cert.KernelIdeal.S1024x1 .f32)
    (ws : Vec Ideal Cert.KernelIdeal.S1x1024 .f32) (r n : Fin 1024) :
    Cert.KernelIdeal.Gen.k0_pay1 (F := Ideal) x w xs ws (ix2 r n)
      = entry (∑ k : Fin 4096, x (ix2 r k) * w (ix2 n k)) (xs (ix2 r 0)) (ws (ix2 0 n)) := by
  pointwise [Cert.KernelIdeal.Gen.k0_pay1, entry]

/-- The reference's body: entry `(b, s, n)` of what it stores is `entry` of row `(b, s)` of `x` against row `n` of `w`,
    and of their scales. -/
theorem reference_pay (x : Vec Ideal Cert.ReferenceIdeal.S4x8192x4096 .fp8e4m3)
    (w : Vec Ideal Cert.ReferenceIdeal.S12288x4096 .fp8e4m3) (xs : Vec Ideal Cert.ReferenceIdeal.S4x8192x1 .f32)
    (ws : Vec Ideal Cert.ReferenceIdeal.S12288 .f32) (b : Fin 4) (s : Fin 8192) (n : Fin 12288) :
    Cert.ReferenceIdeal.Gen.k0_pay1 (F := Ideal) x w xs ws (ix3 b s n)
      = out x xs w ws b s n := by
  pointwise [Cert.ReferenceIdeal.Gen.k0_pay1, out, entry]

end Cert.LinearGelu

end
-- ==== Proof.KernelValue.lean ====
/- What the tiled kernel's result holds after the run, over the extended reals: every entry is `out` of the arguments.
   Each grid point writes its own 1024 by 1024 block; the 32 by 12 blocks tile the flat (32768, 12288) array, and the
   host's reshapes only rename row `b * 8192 + s` as `(b, s)`. -/
module

public import proofs.«01_k».proof.Proof.Payload
public import proofs.«01_k».proof.Proof.Gen.KernelIdeal.Frame
public import Idealize.ShloMosaic.Lib.Pipeline.ValueKit
public import Idealize.ShloMosaic.Lib.Pipeline.Covers

@[expose] public section

noncomputable section

open Idealize.ShloMosaic Idealize.ShloMosaic.TcCoe Idealize.SL.Sem

namespace Cert.LinearGelu.Kernel

open Cert.KernelIdeal Cert.KernelIdeal.Gen Cert.LinearGelu

variable (m : (ℓ : Loc nD τ sig) → Buf (Elt Ideal) ℓ) (ρ : Dev nD → PrngReg)

/-- `out` of device `c`'s four argument arrays. -/
abbrev res (c : Dev nD) (b : Fin 4) (s : Fin 8192) (n : Fin 12288) : EReal :=
  out (m ((c : Thread nD τ).loc main_arg0)) (m ((c : Thread nD τ).loc main_arg1)) (m ((c : Thread nD τ).loc main_arg2))
    (m ((c : Thread nD τ).loc main_arg3)) b s n

/-- The index maps: point `t` of the 32 by 12 grid reads row block `t / 12` of `x` and of its scales, row block
    `t % 12` of `w` and of its scales, and writes block `(t / 12, t % 12)`. -/
theorem idx (t : Fin cfg0.N) : win0_0.index t = ![t.val / 12, 0] ∧ win0_1.index t = ![t.val / 12, 0]
    ∧ win0_2.index t = ![t.val % 12, 0] ∧ win0_3.index t = ![0, t.val % 12] ∧ win0_4.index t = ![t.val / 12, t.val % 12] := by
  revert t
  decide +kernel

/-- Row `r` of the flat array as its batch. -/
def bat (r : Nat) (h : r < 32768) : Fin 4 := ⟨r / 8192, by omega⟩
/-- Row `r` of the flat array as its position in the batch. -/
def pos (r : Nat) : Fin 8192 := ⟨r % 8192, Nat.mod_lt _ (by decide)⟩

/-- The flat array the region leaves: row `r` holds batch `r / 8192`, position `r % 8192`. -/
def flat (c : Dev nD) : Buf (Elt Ideal) ((c : Thread nD τ).loc main_v3) := fun i =>
  res m c (bat (i 0 : Nat) (i 0).isLt) (pos (i 0 : Nat)) (i 1)

theorem row_lt (t : Fin cfg0.N) (r : Fin 1024) : t.val / 12 * 1024 + r.val < 32768 := by
  have : t.val < 384 := lt_of_lt_of_eq t.isLt N_0
  omega
theorem col_lt (t : Fin cfg0.N) (n : Fin 1024) : t.val % 12 * 1024 + n.val < 12288 := by omega

/-- At the region's entry `main_v0` is `x` with its batches and positions as one flat row axis. -/
theorem V_v0 (c : Dev nD) : V m c main_v0
    = shapeCast S32768x4096 (m ((c : Thread nD τ).loc main_arg0)) shapeCasts_S4x8192x4096_S32768x4096 := by
  entry_read
  rfl
/-- At the region's entry `main_v1` is the row scales on the same flat row axis. -/
theorem V_v1 (c : Dev nD) : V m c main_v1
    = shapeCast S32768x1 (m ((c : Thread nD τ).loc main_arg1)) shapeCasts_S4x8192x1_S32768x1 := by
  entry_read
  rfl
/-- At the region's entry `main_v2` is the column scales as one row. -/
theorem V_v2 (c : Dev nD) : V m c main_v2
    = shapeCast S1x12288 (m ((c : Thread nD τ).loc main_arg3)) shapeCasts_S12288_S1x12288 := by
  entry_read
  rfl

/-- The `x` block at point `t`, read at `(r, k)`: flat row `t / 12 * 1024 + r` of `x`. -/
theorem x_blk (c : Dev nD) (t : Fin cfg0.N) (r : Fin 1024) (k : Fin 4096) :
    iblk m c 0 t (ix2 r k)
      = m ((c : Thread nD τ).loc main_arg0) (ix3 (bat _ (row_lt t r)) (pos (t.val / 12 * 1024 + r.val)) k) := by
  have e : iblk m c 0 t (ix2 r k) = V m c main_v0 (ix2 ⟨t.val / 12 * 1024 + r.val, row_lt t r⟩ k) := by
    blk_ext [iblk, (idx t).1]
  rw [e, V_v0]
  refine shapeCast_apply (s := S4x8192x4096) _ _ _ _ ?_
  rw [Shape.rowMajor_val_three, Shape.rowMajor_val_two]
  show ((t.val / 12 * 1024 + r.val) / 8192 * 8192 + (t.val / 12 * 1024 + r.val) % 8192) * 4096 + k.val
    = (t.val / 12 * 1024 + r.val) * 4096 + k.val
  omega

/-- The row-scale block at point `t`, read at row `r`. -/
theorem xs_blk (c : Dev nD) (t : Fin cfg0.N) (r : Fin 1024) :
    iblk m c 1 t (ix2 r 0)
      = m ((c : Thread nD τ).loc main_arg1) (ix3 (bat _ (row_lt t r)) (pos (t.val / 12 * 1024 + r.val)) 0) := by
  have e : iblk m c 1 t (ix2 r 0) = V m c main_v1 (ix2 ⟨t.val / 12 * 1024 + r.val, row_lt t r⟩ 0) := by
    blk_ext [iblk, (idx t).2.1]
  rw [e, V_v1]
  refine shapeCast_apply (s := S4x8192x1) _ _ _ _ ?_
  rw [Shape.rowMajor_val_three, Shape.rowMajor_val_two]
  show ((t.val / 12 * 1024 + r.val) / 8192 * 8192 + (t.val / 12 * 1024 + r.val) % 8192) * 1 + 0
    = (t.val / 12 * 1024 + r.val) * 1 + 0
  omega

/-- The `w` block at point `t`, read at `(n, k)`: row `t % 12 * 1024 + n` of `w`. -/
theorem w_blk (c : Dev nD) (t : Fin cfg0.N) (n : Fin 1024) (k : Fin 4096) :
    iblk m c 2 t (ix2 n k)
      = m ((c : Thread nD τ).loc main_arg2) (ix2 ⟨t.val % 12 * 1024 + n.val, col_lt t n⟩ k) := by
  blk_ext [iblk, V, (idx t).2.2.1]

/-- The column-scale block at point `t`, read at column `n`. -/
theorem ws_blk (c : Dev nD) (t : Fin cfg0.N) (n : Fin 1024) :
    iblk m c 3 t (ix2 0 n)
      = m ((c : Thread nD τ).loc main_arg3) (ix1 ⟨t.val % 12 * 1024 + n.val, col_lt t n⟩) := by
  have e : iblk m c 3 t (ix2 0 n) = V m c main_v2 (ix2 0 ⟨t.val % 12 * 1024 + n.val, col_lt t n⟩) := by
    blk_ext [iblk, (idx t).2.2.2.1]
  rw [e, V_v2]
  refine shapeCast_apply (s := S12288) _ _ _ _ ?_
  rw [Shape.rowMajor_val_one, Shape.rowMajor_val_two]
  show t.val % 12 * 1024 + n.val = 0 * 12288 + (t.val % 12 * 1024 + n.val)
  omega

/-- Where entry `(r, n)` of the output block at point `t` lies in the flat array. -/
theorem out_emb (g : S32768x12288.Idx → EReal) (t : Fin cfg0.N) (r n : Fin 1024) :
    g (((cfg0.win 4).blk t).view.emb (ix2 r n))
      = g (ix2 ⟨t.val / 12 * 1024 + r.val, row_lt t r⟩ ⟨t.val % 12 * 1024 + n.val, col_lt t n⟩) := by
  blk_ext [(idx t).2.2.2.2]

/-- The output array after the region is `flat`: its blocks tile it, and block `t` is what point `t` computes. -/
theorem final (c : Dev nD) : (dats m 0 c).arrAt 4 cfg0.N = flat m c := by
  refine (dats m 0 c).arrAt_eq_of_covers 4 _ (by decide +kernel) fun t hf y => ?_
  blk_simp
  rw [after0_4]
  frame_out
  obtain ⟨r, n, rfl⟩ : ∃ r n : Fin 1024, y = ix2 r n := ⟨y 0, y 1, by funext a; fin_cases a <;> rfl⟩
  refine (kernel_pay _ _ _ _ _ _).trans ?_
  simp only [x_blk, xs_blk, w_blk, ws_blk]
  exact (out_emb (flat m c) t r n).symm

/-- The result array after the host's last reshape, read at `(b, s, n)`: the flat array at row `b * 8192 + s`. -/
theorem tail (c : Dev nD) :
    Pipeline.afterTail₀ cfgs (dats m) 0 (V0 m) [hostOps1] c main_v4 = fun i => res m c (i 0) (i 1) (i 2) := by
  have e : Pipeline.afterTail₀ cfgs (dats m) 0 (V0 m) [hostOps1] c main_v4
      = shapeCast S4x8192x12288 (flat m c) shapeCasts_S32768x12288_S4x8192x12288 := by
    rw [← final m c]
    unfold Pipeline.afterTail₀
    show StableHlo.after hostOps1 _ (Proc.devRef .tc main_v4) = _
    simp only [StableHlo.after_cons, StableHlo.after_nil]
    rw [StableHlo.reshape_result]
    exact congrArg (fun z => shapeCast S4x8192x12288 z shapeCasts_S32768x12288_S4x8192x12288)
      (Pipeline.withArrays_arr (cfgs 0).spec launch0.win.arr_inj c (V0 m c) _ 4)
  rw [e]
  funext i
  obtain ⟨b, s, n, rfl⟩ : ∃ (b : Fin 4) (s : Fin 8192) (n : Fin 12288), i = ix3 b s n :=
    ⟨i 0, i 1, i 2, by funext a; fin_cases a <;> rfl⟩
  have hr : b.val * 8192 + s.val < 32768 := by omega
  refine (shapeCast_apply _ _ _ (ix2 ⟨b.val * 8192 + s.val, hr⟩ n) ?_).trans ?_
  · rw [Shape.rowMajor_val_three, Shape.rowMajor_val_two]
    rfl
  · show res m c (bat (b.val * 8192 + s.val) hr) (pos (b.val * 8192 + s.val)) n = res m c b s n
    rw [show bat (b.val * 8192 + s.val) hr = b from Fin.ext (by show (b.val * 8192 + s.val) / 8192 = b.val; omega),
      show pos (b.val * 8192 + s.val) = s from Fin.ext (by show (b.val * 8192 + s.val) % 8192 = s.val; omega)]

/-- The run: the result at `out` of the arguments, the arguments unchanged. -/
theorem run : θ_run defs (onTc (τ := τ) (main (F := Ideal))) ⟨m, fun _ => 0, ρ⟩ fun r => ∀ c : Dev nD,
      r.2.mem ((c : Thread nD τ).loc main_v4) = (fun i => res m c (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from (run_main m ρ)
  · exact tail m c
  · exact W_main_arg0 m (dats m) c
  · exact W_main_arg1 m (dats m) c
  · exact W_main_arg3 m (dats m) c

end Cert.LinearGelu.Kernel

end
-- ==== Proof.ReferenceValue.lean ====
/- What the reference's result holds after its run, over the extended reals: every entry is `out` of the arguments. -/
module

public import proofs.«01_k».proof.Proof.Payload
public import proofs.«01_k».proof.Proof.Gen.ReferenceIdeal.Frame
public import Idealize.ShloMosaic.Lib.Pipeline.ValueKit

@[expose] public section

noncomputable section

open Idealize.ShloMosaic Idealize.ShloMosaic.TcCoe Idealize.SL.Sem

namespace Cert.LinearGelu.Reference

open Cert.ReferenceIdeal Cert.ReferenceIdeal.Gen Cert.LinearGelu

variable (m : (ℓ : Loc nD τ sig) → Buf (Elt Ideal) ℓ) (ρ : Dev nD → PrngReg)

/-- `out` of device `c`'s four argument arrays. -/
abbrev res (c : Dev nD) (b : Fin 4) (s : Fin 8192) (n : Fin 12288) : EReal :=
  out (m ((c : Thread nD τ).loc main_arg0)) (m ((c : Thread nD τ).loc main_arg1)) (m ((c : Thread nD τ).loc main_arg2))
    (m ((c : Thread nD τ).loc main_arg3)) b s n

/-- Every window is its whole array: all block indices are 0. -/
theorem idx (t : Fin cfg0.N) : win0_0.index t = ![0, 0, 0] ∧ win0_1.index t = ![0, 0, 0]
    ∧ win0_2.index t = ![0, 0] ∧ win0_3.index t = ![0] ∧ win0_4.index t = ![0, 0, 0] := by
  revert t
  decide +kernel

/-- The block of `x` is the whole argument. -/
theorem x_blk (c : Dev nD) (t : Fin cfg0.N) (b : Fin 4) (s : Fin 8192) (k : Fin 4096) :
    iblk m c 0 t (ix3 b s k) = m ((c : Thread nD τ).loc main_arg0) (ix3 b s k) := by
  blk_ext [iblk, V, (idx t).1]
/-- The block of row scales is the whole argument. -/
theorem xs_blk (c : Dev nD) (t : Fin cfg0.N) (b : Fin 4) (s : Fin 8192) :
    iblk m c 1 t (ix3 b s 0) = m ((c : Thread nD τ).loc main_arg1) (ix3 b s 0) := by
  blk_ext [iblk, V, (idx t).2.1]
/-- The block of `w` is the whole argument. -/
theorem w_blk (c : Dev nD) (t : Fin cfg0.N) (n : Fin 12288) (k : Fin 4096) :
    iblk m c 2 t (ix2 n k) = m ((c : Thread nD τ).loc main_arg2) (ix2 n k) := by
  blk_ext [iblk, V, (idx t).2.2.1]
/-- The block of column scales is the whole argument. -/
theorem ws_blk (c : Dev nD) (t : Fin cfg0.N) (n : Fin 12288) :
    iblk m c 3 t (ix1 n) = m ((c : Thread nD τ).loc main_arg3) (ix1 n) := by
  blk_ext [iblk, V, (idx t).2.2.2.1]
/-- The output block is the whole result array. -/
theorem out_emb (g : S4x8192x12288.Idx → EReal) (t : Fin cfg0.N) (b : Fin 4) (s : Fin 8192) (n : Fin 12288) :
    g (((cfg0.win 4).blk t).view.emb (ix3 b s n)) = g (ix3 b s n) := by
  blk_ext [(idx t).2.2.2.2]

/-- The result array after the one call is `out` of the arguments: the call's one block is the whole array. -/
theorem final (c : Dev nD) : (dats m 0 c).arrAt 4 cfg0.N = fun i => res m c (i 0) (i 1) (i 2) := by
  refine (dats m 0 c).arrAt_eq_of_covers 4 _ (by decide +kernel) fun t hf y => ?_
  blk_simp
  rw [after0_4]
  frame_out
  obtain ⟨b, s, n, rfl⟩ : ∃ (b : Fin 4) (s : Fin 8192) (n : Fin 12288), y = ix3 b s n :=
    ⟨y 0, y 1, y 2, by funext a; fin_cases a <;> rfl⟩
  refine (reference_pay _ _ _ _ _ _ _).trans ?_
  unfold out
  simp only [x_blk, xs_blk, w_blk, ws_blk]
  exact (out_emb (fun i => res m c (i 0) (i 1) (i 2)) t b s n).symm

/-- The run: the result at `out` of the arguments, the arguments unchanged. -/
theorem run : θ_run defs (onTc (τ := τ) (main (F := Ideal))) ⟨m, fun _ => 0, ρ⟩ fun r => ∀ c : Dev nD,
      r.2.mem ((c : Thread nD τ).loc main_v0) = (fun i => res m c (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from (run_main m ρ)
  exact final m c

end Cert.LinearGelu.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Over the extended reals both programs end with the same result: every entry is `out` of the arguments. -/
theorem algebraic : Cert.algebraic_KernelIdeal_ReferenceIdeal := by
  pair_intro
  · run_from (Cert.LinearGelu.Kernel.run m g)
  · run_from (Cert.LinearGelu.Reference.run m' g')
    obtain ⟨h0, h1, h2, h3⟩ := hagree c
    unfold LinearGelu.Reference.res LinearGelu.Kernel.res
    rw [h0, h1, h2, h3]
    rfl

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
